-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_row_max_finite [hPre_row_max_finite : Cert.Pre_row_max_finite.Facts] (m : (ℓ : Loc Cert.KernelIdeal.nD Cert.KernelIdeal.τ Cert.KernelIdeal.sig) → Buf (Elt Ideal) ℓ) : Prop :=
  ∀ c : Dev Cert.KernelIdeal.nD,
    (Cert.Pre_row_max_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_max_finite [hPre_row_max_finite : Cert.Pre_row_max_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_max_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_row_max_finite [hKernelIdeal : Cert.KernelIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_max_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_row_max_finite [hReferenceIdeal : Cert.ReferenceIdeal.Facts] [hPre_row_max_finite : Cert.Pre_row_max_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_max_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_row_max_finite [hKernelIdeal : Cert.KernelIdeal.Facts] [hReferenceIdeal : Cert.ReferenceIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_row_max_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_row_max_finite : Cert.Pre_row_max_finite.Facts),
    quiescent_Kernel (hKernel := hKernel)
    ∧ quiescent_KernelIdeal (hKernelIdeal := hKernelIdeal)
    ∧ quiescent_KernelIdeal_pre_row_max_finite (hKernelIdeal := hKernelIdeal) (hPre_row_max_finite := hPre_row_max_finite)
    ∧ quiescent_ReferenceIdeal (hReferenceIdeal := hReferenceIdeal)
    ∧ quiescent_ReferenceIdeal_pre_row_max_finite (hReferenceIdeal := hReferenceIdeal) (hPre_row_max_finite := hPre_row_max_finite)
    ∧ preserves_Kernel_KernelIdeal
    ∧ algebraic_KernelIdeal_ReferenceIdeal_pre_row_max_finite (hKernelIdeal := hKernelIdeal) (hReferenceIdeal := hReferenceIdeal) (hPre_row_max_finite := hPre_row_max_finite)
-- ==== Pre_row_max_finite.lean ====
abbrev S64x100x256 : Shape := ⟨3, ![64, 100, 256]⟩
abbrev S64x100x4 : Shape := ⟨3, ![64, 100, 4]⟩
abbrev S64x2 : Shape := ⟨2, ![64, 2]⟩
abbrev S64x256 : Shape := ⟨2, ![64, 256]⟩
abbrev S64 : Shape := ⟨1, ![64]⟩
abbrev S_ : Shape := ⟨0, ![]⟩
abbrev S64x100 : Shape := ⟨2, ![64, 100]⟩

class Facts : Prop where
  reducesTo_S64x100x256_S64x100_d2 : S64x100x256.ReducesTo [2] S64x100
  h_S_ : 0 < S_.numel
  bcast_S_S64x100 : S_.BroadcastsInDim S64x100 (![] : Fin 0 → Fin S64x100.rank)

variable [Facts]

def fn {F : FTy → Type} [FloatOps F] (main_arg0 : FVec F S64x100x256 .f32) (main_arg1 : FVec F S64x100x4 .f32) (main_arg2 : IVec S64x2 32) (main_arg3 : FVec F S64x256 .f32) (main_arg4 : IVec S64 32) : IVec S64x100 1 :=
  let main_cst : FVec F S_ .f32 := constant S_ .f32 0xFF800000#32
  let main_v0 : FVec F S64x100 .f32 := (fun x v => Host.reduce FloatOps.maximumf x v reducesTo_S64x100x256_S64x100_d2 h_S_) main_arg0 main_cst
  let main_v1 : FVec F S64x100 .f32 := Host.absf main_v0
  let main_cst_0 : FVec F S_ .f32 := constant S_ .f32 0x7F800000#32
  let main_v2 : FVec F S64x100 .f32 := broadcastInDim S64x100 ![] bcast_S_S64x100 main_cst_0
  let main_v3 : IVec S64x100 1 := cmpf .olt main_v1 main_v2
  main_v3
-- ==== Kernel.lean ====
abbrev S64x100x256 : Shape := ⟨3, ![64, 100, 256]⟩
abbrev S64x100x4 : Shape := ⟨3, ![64, 100, 4]⟩
abbrev S64x2 : Shape := ⟨2, ![64, 2]⟩
abbrev S64x256 : Shape := ⟨2, ![64, 256]⟩
abbrev S64 : Shape := ⟨1, ![64]⟩
abbrev S32x100x256 : Shape := ⟨3, ![32, 100, 256]⟩
abbrev S32x100x4 : Shape := ⟨3, ![32, 100, 4]⟩
abbrev S32x2 : Shape := ⟨2, ![32, 2]⟩
abbrev S32x256 : Shape := ⟨2, ![32, 256]⟩
abbrev S32x100 : Shape := ⟨2, ![32, 100]⟩
abbrev S32x100x1 : Shape := ⟨3, ![32, 100, 1]⟩
abbrev S32x1x256 : Shape := ⟨3, ![32, 1, 256]⟩
abbrev S32x1 : Shape := ⟨2, ![32, 1]⟩
abbrev S32x1x1 : Shape := ⟨3, ![32, 1, 1]⟩
abbrev S1x1x4 : Shape := ⟨3, ![1, 1, 4]⟩
abbrev S32x1x4 : Shape := ⟨3, ![32, 1, 4]⟩
abbrev S4x4 : Shape := ⟨2, ![4, 4]⟩
abbrev S32x1x100 : Shape := ⟨3, ![32, 1, 100]⟩
abbrev S1x100x100 : Shape := ⟨3, ![1, 100, 100]⟩
abbrev S32x100x100 : Shape := ⟨3, ![32, 100, 100]⟩
abbrev S1x100x1 : Shape := ⟨3, ![1, 100, 1]⟩

abbrev nBuf : Space → Nat
  | .hbm => 6
  | .vmem => 10
  | .smem => 0
  | _ => 0

abbrev bufTy : (tb : Table) → Fin (tcTables nBuf tb) → BufTy
  | .hbm, ⟨0, _⟩ => ⟨S64x100x256, .f32⟩
  | .hbm, ⟨1, _⟩ => ⟨S64x100x4, .f32⟩
  | .hbm, ⟨2, _⟩ => ⟨S64x2, .i32⟩
  | .hbm, ⟨3, _⟩ => ⟨S64x256, .f32⟩
  | .hbm, ⟨4, _⟩ => ⟨S64, .i32⟩
  | .hbm, ⟨5, _⟩ => ⟨S64x100x4, .f32⟩
  | .local _ .vmem, ⟨0, _⟩ => ⟨S32x100x256, .f32⟩
  | .local _ .vmem, ⟨1, _⟩ => ⟨S32x100x256, .f32⟩
  | .local _ .vmem, ⟨2, _⟩ => ⟨S32x100x4, .f32⟩
  | .local _ .vmem, ⟨3, _⟩ => ⟨S32x100x4, .f32⟩
  | .local _ .vmem, ⟨4, _⟩ => ⟨S32x2, .i32⟩
  | .local _ .vmem, ⟨5, _⟩ => ⟨S32x2, .i32⟩
  | .local _ .vmem, ⟨6, _⟩ => ⟨S32x256, .f32⟩
  | .local _ .vmem, ⟨7, _⟩ => ⟨S32x256, .f32⟩
  | .local _ .vmem, ⟨8, _⟩ => ⟨S32x100x4, .f32⟩
  | .local _ .vmem, ⟨9, _⟩ => ⟨S32x100x4, .f32⟩
  | _, _ => ⟨S64x100x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x100x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x100x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x100x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S64x100x256 : Shape := ⟨3, ![64, 100, 256]⟩
abbrev S64x100x4 : Shape := ⟨3, ![64, 100, 4]⟩
abbrev S64x2 : Shape := ⟨2, ![64, 2]⟩
abbrev S64x256 : Shape := ⟨2, ![64, 256]⟩
abbrev S64 : Shape := ⟨1, ![64]⟩
abbrev S_ : Shape := ⟨0, ![]⟩
abbrev S64x100 : Shape := ⟨2, ![64, 100]⟩
abbrev S64x100x1 : Shape := ⟨3, ![64, 100, 1]⟩
abbrev S64x1 : Shape := ⟨2, ![64, 1]⟩
abbrev S64x4 : Shape := ⟨2, ![64, 4]⟩
abbrev S64x1x4 : Shape := ⟨3, ![64, 1, 4]⟩
abbrev S64x1x256 : Shape := ⟨3, ![64, 1, 256]⟩
abbrev S1 : Shape := ⟨1, ![1]⟩
abbrev S1x1x1 : Shape := ⟨3, ![1, 1, 1]⟩

abbrev nBuf : Space → Nat
  | .hbm => 90
  | .vmem => 0
  | .smem => 0
  | _ => 0

abbrev bufTy : (tb : Table) → Fin (tcTables nBuf tb) → BufTy
  | .hbm, ⟨0, _⟩ => ⟨S64x100x256, .f32⟩
  | .hbm, ⟨1, _⟩ => ⟨S64x100x4, .f32⟩
  | .hbm, ⟨2, _⟩ => ⟨S64x2, .i32⟩
  | .hbm, ⟨3, _⟩ => ⟨S64x256, .f32⟩
  | .hbm, ⟨4, _⟩ => ⟨S64, .i32⟩
  | .hbm, ⟨5, _⟩ => ⟨S_, .f32⟩
  | .hbm, ⟨6, _⟩ => ⟨S64x100, .f32⟩
  | .hbm, ⟨7, _⟩ => ⟨S_, .f32⟩
  | .hbm, ⟨8, _⟩ => ⟨S64x100, .f32⟩
  | .hbm, ⟨9, _⟩ => ⟨S64x100, .f32⟩
  | .hbm, ⟨10, _⟩ => ⟨S64x100x1, .f32⟩
  | .hbm, ⟨11, _⟩ => ⟨S64x100x256, .f32⟩
  | .hbm, ⟨12, _⟩ => ⟨S64x100x256, .f32⟩
  | .hbm, ⟨13, _⟩ => ⟨S64x100x256, .f32⟩
  | .hbm, ⟨14, _⟩ => ⟨S_, .f32⟩
  | .hbm, ⟨15, _⟩ => ⟨S64x100, .f32⟩
  | .hbm, ⟨16, _⟩ => ⟨S64x100x1, .f32⟩
  | .hbm, ⟨17, _⟩ => ⟨S64x100x256, .f32⟩
  | .hbm, ⟨18, _⟩ => ⟨S64x100x256, .f32⟩
  | .hbm, ⟨19, _⟩ => ⟨S64x100x1, .f32⟩
  | .hbm, ⟨20, _⟩ => ⟨S64x100x1, .f32⟩
  | .hbm, ⟨21, _⟩ => ⟨S64x100x1, .f32⟩
  | .hbm, ⟨22, _⟩ => ⟨S64x100x1, .f32⟩
  | .hbm, ⟨23, _⟩ => ⟨S_, .f32⟩
  | .hbm, ⟨24, _⟩ => ⟨S64x100x1, .f32⟩
  | .hbm, ⟨25, _⟩ => ⟨S64x100x1, .f32⟩
  | .hbm, ⟨26, _⟩ => ⟨S64x100x1, .f32⟩
  | .hbm, ⟨27, _⟩ => ⟨S_, .f32⟩
  | .hbm, ⟨28, _⟩ => ⟨S64x100x1, .f32⟩
  | .hbm, ⟨29, _⟩ => ⟨S64x100x1, .f32⟩
  | .hbm, ⟨30, _⟩ => ⟨S64x100x1, .f32⟩
  | .hbm, ⟨31, _⟩ => ⟨S_, .f32⟩
  | .hbm, ⟨32, _⟩ => ⟨S64x100x1, .f32⟩
  | .hbm, ⟨33, _⟩ => ⟨S64x100x1, .f32⟩
  | .hbm, ⟨34, _⟩ => ⟨S64x100x1, .f32⟩
  | .hbm, ⟨35, _⟩ => ⟨S_, .f32⟩
  | .hbm, ⟨36, _⟩ => ⟨S64x100x1, .f32⟩
  | .hbm, ⟨37, _⟩ => ⟨S64x100x1, .f32⟩
  | .hbm, ⟨38, _⟩ => ⟨S64x100x1, .f32⟩
  | .hbm, ⟨39, _⟩ => ⟨S64x100x4, .f32⟩
  | .hbm, ⟨40, _⟩ => ⟨S64x1, .i32⟩
  | .hbm, ⟨41, _⟩ => ⟨S64, .i32⟩
  | .hbm, ⟨42, _⟩ => ⟨S64, .f32⟩
  | .hbm, ⟨43, _⟩ => ⟨S64x1, .i32⟩
  | .hbm, ⟨44, _⟩ => ⟨S64, .i32⟩
  | .hbm, ⟨45, _⟩ => ⟨S64, .f32⟩
  | .hbm, ⟨46, _⟩ => ⟨S64x1, .f32⟩
  | .hbm, ⟨47, _⟩ => ⟨S64x1, .f32⟩
  | .hbm, ⟨48, _⟩ => ⟨S64x1, .f32⟩
  | .hbm, ⟨49, _⟩ => ⟨S64x1, .f32⟩
  | .hbm, ⟨50, _⟩ => ⟨S64x4, .f32⟩
  | .hbm, ⟨51, _⟩ => ⟨S64x1x4, .f32⟩
  | .hbm, ⟨52, _⟩ => ⟨S64x100x4, .f32⟩
  | .hbm, ⟨53, _⟩ => ⟨S64x100x4, .f32⟩
  | .hbm, ⟨54, _⟩ => ⟨S_, .f32⟩
  | .hbm, ⟨55, _⟩ => ⟨S64x256, .f32⟩
  | .hbm, ⟨56, _⟩ => ⟨S64x256, .i1⟩
  | .hbm, ⟨57, _⟩ => ⟨S64x1x256, .i1⟩
  | .hbm, ⟨58, _⟩ => ⟨S64x1x256, .f32⟩
  | .hbm, ⟨59, _⟩ => ⟨S64x100x256, .f32⟩
  | .hbm, ⟨60, _⟩ => ⟨S64x100x256, .f32⟩
  | .hbm, ⟨61, _⟩ => ⟨S_, .f32⟩
  | .hbm, ⟨62, _⟩ => ⟨S64x100, .f32⟩
  | .hbm, ⟨63, _⟩ => ⟨S64x100, .f32⟩
  | .hbm, ⟨64, _⟩ => ⟨S64x100, .i32⟩
  | .hbm, ⟨65, _⟩ => ⟨S64x100, .f32⟩
  | .hbm, ⟨66, _⟩ => ⟨S64x100, .i32⟩
  | .hbm, ⟨67, _⟩ => ⟨S64x100x1, .i32⟩
  | .hbm, ⟨68, _⟩ => ⟨S_, .i32⟩
  | .hbm, ⟨69, _⟩ => ⟨S64x100x1, .i32⟩
  | .hbm, ⟨70, _⟩ => ⟨S64x100x1, .i1⟩
  | .hbm, ⟨71, _⟩ => ⟨S_, .i32⟩
  | .hbm, ⟨72, _⟩ => ⟨S64x100x1, .i32⟩
  | .hbm, ⟨73, _⟩ => ⟨S64x100x1, .i32⟩
  | .hbm, ⟨74, _⟩ => ⟨S64x100x1, .i32⟩
  | .hbm, ⟨75, _⟩ => ⟨S1, .i32⟩
  | .hbm, ⟨76, _⟩ => ⟨S_, .i32⟩
  | .hbm, ⟨77, _⟩ => ⟨S64x100x1, .i32⟩
  | .hbm, ⟨78, _⟩ => ⟨S64x100x1, .i1⟩
  | .hbm, ⟨79, _⟩ => ⟨S1x1x1, .i32⟩
  | .hbm, ⟨80, _⟩ => ⟨S64x100x1, .i32⟩
  | .hbm, ⟨81, _⟩ => ⟨S64x100x1, .i1⟩
  | .hbm, ⟨82, _⟩ => ⟨S64x100x1, .i1⟩
  | .hbm, ⟨83, _⟩ => ⟨S_, .i1⟩
  | .hbm, ⟨84, _⟩ => ⟨S64x100, .i1⟩
  | .hbm, ⟨85, _⟩ => ⟨S64x100x4, .f32⟩
  | .hbm, ⟨86, _⟩ => ⟨S64x100x4, .i1⟩
  | .hbm, ⟨87, _⟩ => ⟨S_, .f32⟩
  | .hbm, ⟨88, _⟩ => ⟨S64x100x4, .f32⟩
  | .hbm, ⟨89, _⟩ => ⟨S64x100x4, .f32⟩
  | _, _ => ⟨S64x100x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_call0_v0 : Ref sig .tc := ⟨.hbm, 64, rfl⟩
abbrev main_call0_v1_0 : Ref sig .tc := ⟨.hbm, 65, rfl⟩
abbrev main_v50 : Ref sig .tc := ⟨.hbm, 66, rfl⟩
abbrev main_v51 : Ref sig .tc := ⟨.hbm, 67, rfl⟩
abbrev main_call1_c : Ref sig .tc := ⟨.hbm, 68, rfl⟩
abbrev main_call1_v0 : Ref sig .tc := ⟨.hbm, 69, rfl⟩
abbrev main_call1_v1 : Ref sig .tc := ⟨.hbm, 70, rfl⟩
abbrev main_call1_c_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_c_1 : Ref sig .tc := ⟨.hbm, 75, rfl⟩
abbrev main_call1_c_2 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_v9 : Ref sig .tc := ⟨.hbm, 81, rfl⟩
abbrev main_call1_v10 : Ref sig .tc := ⟨.hbm, 82, rfl⟩
abbrev main_call1_c_3 : Ref sig .tc := ⟨.hbm, 83, rfl⟩
abbrev main_call1_v11 : Ref sig .tc := ⟨.hbm, 84, rfl⟩
abbrev main_call1_v12 : Ref sig .tc := ⟨.hbm, 85, rfl⟩
abbrev main_call1_v13 : Ref sig .tc := ⟨.hbm, 86, rfl⟩
abbrev main_call1_cst : Ref sig .tc := ⟨.hbm, 87, rfl⟩
abbrev main_call1_v14 : Ref sig .tc := ⟨.hbm, 88, rfl⟩
abbrev main_v52 : Ref sig .tc := ⟨.hbm, 89, rfl⟩

abbrev nD : Nat := 1
abbrev τ : Topo := Topo.v7x

variable {F : FTy → Type} [FloatOps F]
-- ==== Proof.Rank.lean ====
module

public import Idealize.ShloMosaic.Lib.SortPrefix
public import Mathlib.Order.Interval.Finset.Fin
public import Mathlib.Data.EReal.Basic

/-! A stable argsort by decreasing score, and the place each position takes in it, told by counting.

The reference sorts the positions `0 … n-1` by decreasing score with a stable sort. The kernel never sorts: it counts,
for each position, how many positions it beats, where a position beats another when its score is larger, or when the
scores are equal and it comes first. This module joins the two: the position at sorted place `r` is the one position
that beats exactly `n - 1 - r` others. -/

@[expose] public section

noncomputable section

namespace Cert.Hand

open Idealize.ShloMosaic

/-- Position `i` is put before position `k` when its score is larger. -/
def larger {n : Nat} (s : Fin n → EReal) (i k : Fin n) : Bool := decide (s k < s i)

/-- Position `j` beats position `i`: a larger score, or the same score at a smaller position. -/
def Beats {n : Nat} (s : Fin n → EReal) (j i : Fin n) : Prop := s i < s j ∨ (s j = s i ∧ j < i)

instance {n : Nat} (s : Fin n → EReal) (j i : Fin n) : Decidable (Beats s j i) :=
  inferInstanceAs (Decidable (_ ∨ _))

/-- `Beats` as a boolean relation: the order of the sort with its ties settled by position. -/
def beatsB {n : Nat} (s : Fin n → EReal) (j i : Fin n) : Bool := decide (Beats s j i)

/-- Two relations that agree on every pair taken in decreasing list order sort an ordered list of positions alike:
    the insertion only ever asks whether a later element goes before an earlier one. -/
theorem stableSort_of_ascending {n : Nat} (R R' : Fin n → Fin n → Bool) (l : List (Fin n))
    (hl : l.Pairwise (· < ·)) (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- Sorting by decreasing score alone, stably, is sorting by "beats". -/
theorem sortedFrom_larger {n : Nat} (s : Fin n → EReal) : sortedFrom (larger s) = sortedFrom (beatsB s) := by
  have e : sortPositions n (larger s) = sortPositions n (beatsB s) := by
    refine stableSort_of_ascending _ _ _ (List.pairwise_lt_finRange n) fun a b hab => ?_
    unfold larger beatsB Beats
    congr 1
    have : ¬ b < a := not_lt.mpr hab.le
    simp [this]
  funext k
  unfold sortedFrom
  rw [List.get_of_eq e]
  rfl

/-- "Beats" is transitive. -/
theorem Beats.trans {n : Nat} {s : Fin n → EReal} {a b c : Fin n} (h : Beats s a b) (h' : Beats s b c) : Beats s a c := by
  rcases h with h | ⟨e, h⟩ <;> rcases h' with h' | ⟨e', h'⟩
  · exact .inl (h'.trans h)
  · exact .inl (e' ▸ h)
  · exact .inl (e ▸ h')
  · exact .inr ⟨e.trans e', h.trans h'⟩

/-- Nothing beats itself. -/
theorem Beats.irrefl {n : Nat} (s : Fin n → EReal) (a : Fin n) : ¬ Beats s a a := by
  rintro (h | ⟨_, h⟩) <;> exact lt_irrefl _ h

/-- Of two different positions one beats the other. -/
theorem Beats.total {n : Nat} (s : Fin n → EReal) {a b : Fin n} (h : a ≠ b) : Beats s a b ∨ Beats s b a := by
  rcases lt_trichotomy (s a) (s b) with hs | hs | hs
  · exact .inr (.inl hs)
  · rcases lt_or_gt_of_ne h with hab | hab
    · exact .inl (.inr ⟨hs, hab⟩)
    · exact .inr (.inr ⟨hs.symm, hab⟩)
  · exact .inl (.inl hs)

/-- "Beats" is a strict total order. -/
theorem beatsB_strictTotal {n : Nat} (s : Fin n → EReal) : StrictTotalBefore (beatsB s) where
  irrefl a := decide_eq_false (Beats.irrefl s a)
  trans a b c h h' := decide_eq_true ((of_decide_eq_true h).trans (of_decide_eq_true h'))
  total a b h := (Beats.total s h).imp (fun x => decide_eq_true x) (fun x => decide_eq_true x)

/-- The position at sorted place `r`: the stable argsort by decreasing score. -/
def order {n : Nat} (s : Fin n → EReal) : Fin n → Fin n := sortedFrom (larger s)

/-- Of two sorted places the earlier one's position beats the later one's. -/
theorem order_beats {n : Nat} (s : Fin n → EReal) {q r : Fin n} (h : q < r) : Beats s (order s q) (order s r) := by
  have hB := beatsB_strictTotal s
  have hno := sortedFrom_noInversion (beatsB s) (beatsB s) (fun a b => hB.asymm a b) (fun _ _ h => h) hB.negTrans q r h
  unfold order
  rw [sortedFrom_larger]
  refine (Beats.total s fun e => h.ne (sortedFrom_injective _ e)).resolve_right fun hb => ?_
  exact of_decide_eq_false hno hb

/-- The position at sorted place `q` beats the one at sorted place `r` exactly when `q` comes before `r`. -/
theorem order_beats_iff {n : Nat} (s : Fin n → EReal) (q r : Fin n) : Beats s (order s q) (order s r) ↔ q < r := by
  refine ⟨fun h => ?_, order_beats s⟩
  rcases lt_trichotomy q r with hqr | rfl | hqr
  · exact hqr
  · exact absurd h (Beats.irrefl s _)
  · exact absurd (h.trans (order_beats s hqr)) (Beats.irrefl s _)

/-- The position at sorted place `r` beats exactly the `n - 1 - r` positions behind it. -/
theorem card_beaten {n : Nat} (s : Fin n → EReal) (r : Fin n) :
    (Finset.univ.filter fun i => Beats s (order s r) i).card = n - 1 - r.val := by
  have hinj : Function.Injective (order s) := sortedFrom_injective _
  have hsur : Function.Surjective (order s) := sortedFrom_surjective _
  have e : (Finset.univ.filter fun i => Beats s (order s r) i) = (Finset.Ioi r).image (order s) := by
    ext i
    obtain ⟨q, rfl⟩ := hsur i
    simp only [Finset.mem_filter, Finset.mem_univ, true_and, order_beats_iff, Finset.mem_image, Finset.mem_Ioi]
    exact ⟨fun h => ⟨q, h, rfl⟩, fun ⟨q', h, e⟩ => hinj e ▸ h⟩
  rw [e, Finset.card_image_of_injective _ hinj, Fin.card_Ioi]

/-- The kernel's rank test picks the position at sorted place `r` and no other: `n - 1` less the number of positions
    `j` beats is `r` exactly when `j` is the position at place `r`. -/
theorem rank_iff {n : Nat} (s : Fin n → EReal) (j r : Fin n) :
    n - 1 - (Finset.univ.filter fun i => Beats s j i).card = r.val ↔ j = order s r := by
  obtain ⟨q, rfl⟩ : ∃ q, order s q = j := sortedFrom_surjective _ j
  rw [card_beaten]
  have hq := q.isLt
  have hr := r.isLt
  refine ⟨fun h => congrArg _ (Fin.ext (by omega)), fun h => ?_⟩
  have : q = r := sortedFrom_injective _ h
  subst this
  omega

/-- The number of positions one position beats is below `n`. -/
theorem card_beaten_le {n : Nat} (s : Fin n → EReal) (j : Fin n) :
    (Finset.univ.filter fun i => Beats s j i).card ≤ n - 1 := by
  obtain ⟨q, rfl⟩ : ∃ q, order s q = j := sortedFrom_surjective _ j
  rw [card_beaten]
  omega

end Cert.Hand

end
end
-- ==== Proof.Score.lean ====
module

public import Idealize.ShloMosaic.PureOps.Ideal
public import Idealize.ShloMosaic.Lib.Pointwise

/-! The score of a query, two ways, over the extended reals.

The reference takes the softmax of the row, sets the tokens outside the mask to zero, and takes the largest entry. The
kernel takes the largest logit inside the mask and only then exponentiates and divides. They agree wherever the
exponentials of the row have a positive sum, since `y ↦ exp (y - m) / s` is then increasing and sends `-∞` to zero. -/

@[expose] public section

noncomputable section

namespace Cert.Hand

open Idealize.ShloMosaic

/-- The exponential at `-∞`. -/
theorem exp_bot : Ideal.exp ⊥ = 0 := rfl

/-- The exponential at `+∞`. -/
theorem exp_top : Ideal.exp ⊤ = ⊤ := rfl

/-- The exponential at a real number. -/
theorem exp_coe (r : ℝ) : Ideal.exp ((r : ℝ) : EReal) = ((Real.exp r : ℝ) : EReal) := rfl

/-- The exponential is nowhere negative. -/
theorem exp_nonneg (x : EReal) : 0 ≤ Ideal.exp x := by
  induction x with
  | bot => rw [exp_bot]
  | top => rw [exp_top]; exact le_top
  | coe x => rw [exp_coe]; exact_mod_cast (Real.exp_pos x).le

/-- The exponential of the extended reals is increasing. -/
theorem exp_mono {x y : EReal} (h : x ≤ y) : Ideal.exp x ≤ Ideal.exp y := by
  induction x with
  | bot => rw [exp_bot]; exact exp_nonneg y
  | top => rw [top_le_iff.mp h]
  | coe x =>
    induction y with
    | bot => simp at h
    | top => rw [exp_top]; exact le_top
    | coe y => rw [exp_coe, exp_coe]; exact_mod_cast Real.exp_le_exp.mpr (by exact_mod_cast h)

/-- One entry of a softmax as a function of its logit: the exponential above the row's maximum, over the row's sum. -/
def soft (m s y : EReal) : EReal := Ideal.div (Ideal.exp (y - m)) s

/-- `soft` is increasing where the sum is positive. -/
theorem soft_mono {m s x y : EReal} (hs : 0 < s) (h : x ≤ y) : soft m s x ≤ soft m s y := by
  unfold soft Ideal.div
  rw [if_neg hs.ne', if_neg hs.ne']
  exact mul_le_mul_of_nonneg_right (exp_mono (EReal.sub_le_sub h le_rfl)) (EReal.inv_nonneg_of_nonneg hs.le)

/-- `soft` of `-∞` is zero where the sum is positive. -/
theorem soft_bot {m s : EReal} (hs : 0 < s) : soft m s ⊥ = 0 := by
  unfold soft Ideal.div
  rw [if_neg hs.ne', EReal.bot_sub, exp_bot, zero_mul]

/-- A running maximum from `-∞` is the supremum. -/
theorem fold_max_eq_sup {n : Nat} (f : Fin n → EReal) : Finset.univ.fold max ⊥ f = Finset.univ.sup f := rfl

/-- An increasing function goes through a maximum of one or more entries. -/
theorem fold_max_map {n : Nat} (hn : 0 < n) (F : EReal → EReal) (hF : ∀ x y, x ≤ y → F x ≤ F y) (f : Fin n → EReal) :
    Finset.univ.fold max ⊥ (fun l => F (f l)) = F (Finset.univ.fold max ⊥ f) := by
  rw [fold_max_eq_sup, fold_max_eq_sup]
  have hne : (Finset.univ : Finset (Fin n)).Nonempty := ⟨⟨0, hn⟩, Finset.mem_univ _⟩
  refine le_antisymm (Finset.sup_le fun l _ => hF _ _ (Finset.le_sup (f := f) (Finset.mem_univ l))) ?_
  obtain ⟨l, _, hl⟩ := Finset.exists_mem_eq_sup _ hne f
  rw [hl]
  exact Finset.le_sup (f := fun l => F (f l)) (Finset.mem_univ l)

/-- The row's maximum. -/
def rowMax {n : Nat} (x : Fin n → EReal) : EReal := Finset.univ.fold max ⊥ x

/-- The row's sum of exponentials above its maximum. -/
def rowSum {n : Nat} (x : Fin n → EReal) : EReal := ∑ l, Ideal.exp (x l - rowMax x)

/-- The score as the kernel takes it: `soft` of the largest logit inside the mask. -/
def score {n : Nat} (p : Fin n → Prop) [DecidablePred p] (x : Fin n → EReal) : EReal :=
  soft (rowMax x) (rowSum x) (Finset.univ.fold max ⊥ fun l => if p l then x l else ⊥)

/-- The sum of exponentials is positive where the row's maximum is finite: the largest logit contributes a one. -/
theorem rowSum_pos {n : Nat} (hn : 0 < n) (x : Fin n → EReal) (hb : rowMax x ≠ ⊥) (ht : rowMax x ≠ ⊤) :
    0 < rowSum x := by
  have hne : (Finset.univ : Finset (Fin n)).Nonempty := ⟨⟨0, hn⟩, Finset.mem_univ _⟩
  obtain ⟨l, _, hl⟩ := Finset.exists_mem_eq_sup _ hne x
  have hm : rowMax x = x l := hl
  have h1 : Ideal.exp (x l - rowMax x) = 1 := by
    rw [hm] at hb ht ⊢
    rw [EReal.sub_self ht hb]
    have : Ideal.exp ((0 : ℝ) : EReal) = 1 := by rw [exp_coe, Real.exp_zero]; rfl
    exact this
  refine lt_of_lt_of_le zero_lt_one ?_
  rw [← h1]
  exact Finset.single_le_sum (f := fun l => Ideal.exp (x l - rowMax x)) (fun i _ => exp_nonneg _) (Finset.mem_univ l)

/-- The score as the reference takes it, the largest masked softmax entry, is the kernel's. -/
theorem score_eq {n : Nat} (hn : 0 < n) (p : Fin n → Prop) [DecidablePred p] (x : Fin n → EReal)
    (hb : rowMax x ≠ ⊥) (ht : rowMax x ≠ ⊤) :
    Finset.univ.fold max ⊥ (fun l => (if p l then 1 else 0) * soft (rowMax x) (rowSum x) (x l)) = score p x := by
  have hs := rowSum_pos hn x hb ht
  unfold score
  rw [← fold_max_map hn _ (fun _ _ => soft_mono hs)]
  congr 1
  funext l
  by_cases h : p l
  · simp [h]
  · simp [h, soft_bot hs]

end Cert.Hand

end
-- ==== Proof.Spec.lean ====
module

public import proofs.«01_k».proof.Proof.Rank
public import proofs.«01_k».proof.Proof.Score

/-! What both programs compute, for one image: the boxes in order of decreasing score, as corners, in pixels. -/

@[expose] public section

noncomputable section

namespace Cert.Hand

open Idealize.ShloMosaic

/-- The literal one half. -/
def half : EReal := Ideal.ofBits .f32 0x3F000000#32

/-- The literal the mask compares with. -/
def eps : EReal := Ideal.ofBits .f32 0x358637BD#32

/-- The pattern of `-∞` denotes `-∞`. -/
theorem ofBits_neg_inf : Ideal.ofBits .f32 0xFF800000#32 = ⊥ := by simp [Ideal.ofBits, Ideal.ieee]

/-- The pattern of `+∞` denotes `+∞`. -/
theorem ofBits_pos_inf : Ideal.ofBits .f32 0x7F800000#32 = ⊤ := by simp [Ideal.ofBits, Ideal.ieee]

/-- The pattern of minus one half denotes the negation of one half. -/
theorem ofBits_neg_half : Ideal.ofBits .f32 0xBF000000#32 = -half := by
  simp [half, Ideal.ofBits, Ideal.ieee]

/-- Centre and size to the two corners. -/
def corner (B : Fin 4 → EReal) : Fin 4 → EReal :=
  ![B 0 - half * B 2, B 1 - half * B 3, B 0 + half * B 2, B 1 + half * B 3]

/-- Width, height, width, height, of an image given as height and width. -/
def scale (Z : Fin 2 → BitVec 32) : Fin 4 → EReal :=
  ![FloatOps.sitofp (F := Ideal) .f32 (Z 1), FloatOps.sitofp (F := Ideal) .f32 (Z 0),
    FloatOps.sitofp (F := Ideal) .f32 (Z 1), FloatOps.sitofp (F := Ideal) .f32 (Z 0)]

/-- The scores of one image's queries. -/
def scores (X : Fin 100 → Fin 256 → EReal) (P : Fin 256 → EReal) (q : Fin 100) : EReal :=
  score (fun l => eps < P l) (X q)

/-- The answer for one image: at place `r` the scaled corners of the query at sorted place `r`. -/
def answer (X : Fin 100 → Fin 256 → EReal) (B : Fin 100 → Fin 4 → EReal) (Z : Fin 2 → BitVec 32) (P : Fin 256 → EReal)
    (r : Fin 100) (k : Fin 4) : EReal :=
  corner (B (order (scores X P) r)) k * scale Z k

end Cert.Hand

end
-- ==== Proof.KernelBlock.lean ====
module

public import proofs.«01_k».proof.Proof.Gen.KernelIdeal.Frame
public import proofs.«01_k».proof.Proof.Spec
public import Idealize.ShloMosaic.Lib.IndicatorCount
public import Idealize.ShloMosaic.Lib.Pointwise

/-! What the kernel's body writes at one index of its output block. -/

@[expose] public section

set_option maxRecDepth 16384

noncomputable section

namespace Cert.Hand.Block

open Idealize.ShloMosaic Idealize.ShloMosaic.TcCoe Idealize.SL.Sem
open Cert.KernelIdeal Cert.KernelIdeal.Gen

/-- The word the kernel's remainder by two adds back to a negative remainder. -/
abbrev two : BitVec 32 := Scalar.select (Scalar.cmpi .eq 2#32 0#32) 1#32 2#32

/-- The corner matrix has an entry where row and column have the same parity. -/
theorem parity_word (x k : Fin 4) : IntOp.cmpi .eq (k0_pay9 (ix2 x k))
    (Scalar.select (k0_pay11 (ix2 x k)) (IntOp.addi (k0_pay10 (ix2 x k)) two) (k0_pay10 (ix2 x k)))
      = if x.val % 2 = k.val % 2 then 1#1 else 0#1 := by
  revert x k
  decide +kernel

/-- The scale picks the width in the even lanes. -/
theorem lane_word (k : Fin 4) : IntOp.cmpi .eq
    (Scalar.select (IntOp.andi (IntOp.xori (k0_pay7 (ix3 0 0 k)) (Scalar.cmpi .slt two 0#32)) (k0_pay6 (ix3 0 0 k)))
      (IntOp.addi (k0_pay5 (ix3 0 0 k)) two) (k0_pay5 (ix3 0 0 k))) 0#32
      = if k.val % 2 = 0 then 1#1 else 0#1 := by
  revert k
  decide +kernel

/-- The score column of the kernel is `scores`. -/
theorem score_apply (X : FVec Ideal S32x100x256 .f32) (P : FVec Ideal S32x256 .f32) (b : Fin 32) (q : Fin 100) :
    k0_pay1 (F := Ideal) X P (ix3 b q 0) = scores (fun q l => X (ix3 b q l)) (fun l => P (ix2 b l)) q := by
  pointwise [k0_pay1]
  simp only [ofBits_neg_inf]
  rfl

/-- The scale row of the kernel is `scale`. -/
theorem scale_apply (Z : IVec S32x2 32) (b : Fin 32) (k : Fin 4) :
    k0_pay8 (F := Ideal) (k0_pay3 Z) (k0_pay4 Z) two k0_pay5 k0_pay6 k0_pay7 (Scalar.cmpi .slt two 0#32) (ix3 b 0 k)
      = scale (fun e => Z (ix2 b e)) k := by
  pointwise [k0_pay8]
  rw [lane_word]
  pointwise [k0_pay3, k0_pay4, k0_pay2]
  fin_cases k <;> rfl

/-- The word of the kernel's "beats" comparison is one exactly where `Beats` holds. -/
theorem beats_word (s : Fin 100 → EReal) (j i : Fin 100) :
    IntOp.ori (BitVec.ofBool (decide (s i < s j))) (IntOp.andi (BitVec.ofBool (decide (s j = s i)))
      (IntOp.cmpi .slt (BitVec.ofNat 32 j.val) (BitVec.ofNat 32 i.val))) = 1#1 ↔ Beats s j i := by
  have hlt : IntOp.cmpi .slt (BitVec.ofNat 32 j.val) (BitVec.ofNat 32 i.val) = BitVec.ofBool (decide (j < i)) := by
    have hj := j.isLt
    have hi := i.isLt
    word_cmp
    rfl
  rw [hlt]
  unfold Beats
  by_cases h1 : s i < s j <;> by_cases h2 : s j = s i <;> by_cases h3 : j < i <;> simp [h1, h2, h3, IntOp.ori, IntOp.andi]

/-- The kernel's one-hot selection: the sum over the positions of the indicator of "rank `r`" times a value is the value
    at the position of sorted place `r`. -/
theorem take_eq (s v : Fin 100 → EReal) (r : Fin 100) :
    (∑ j : Fin 100, FloatOps.sitofp (F := Ideal) .f32 (BitVec.setWidth 32 (IntOp.cmpi .eq
        (IntOp.subi 99#32 (Finset.univ.fold IntOp.addi 0#32 fun i : Fin 100 => BitVec.setWidth 32
          (IntOp.ori (BitVec.ofBool (decide (s i < s j))) (IntOp.andi (BitVec.ofBool (decide (s j = s i)))
            (IntOp.cmpi .slt (BitVec.ofNat 32 j.val) (BitVec.ofNat 32 i.val))))))
        (BitVec.ofNat 32 r.val))) * v j) = v (order s r) := by
  have hw : ∀ j : Fin 100, IntOp.cmpi .eq
        (IntOp.subi 99#32 (Finset.univ.fold IntOp.addi 0#32 fun i : Fin 100 => BitVec.setWidth 32
          (IntOp.ori (BitVec.ofBool (decide (s i < s j))) (IntOp.andi (BitVec.ofBool (decide (s j = s i)))
            (IntOp.cmpi .slt (BitVec.ofNat 32 j.val) (BitVec.ofNat 32 i.val))))))
        (BitVec.ofNat 32 r.val) = BitVec.ofBool (decide (j = order s r)) := by
    intro j
    rw [IndicatorCount.fold_addi_setWidth_eq_card]
    simp only [beats_word]
    have hc := card_beaten_le s j
    have hr := r.isLt
    have hiff := rank_iff s j r
    generalize (Finset.univ.filter fun i => Beats s j i).card = c at hc hiff
    have : (IntOp.subi 99#32 (BitVec.ofNat 32 c) = BitVec.ofNat 32 r.val) ↔ j = order s r := by
      rw [← hiff]
      unfold IntOp.subi
      rw [← BitVec.toNat_inj]
      simp only [BitVec.toNat_sub, BitVec.toNat_ofNat]
      omega
    by_cases h : j = order s r
    · rw [this.mpr h]; simp [h, IntOp.cmpi]
    · have h' := mt this.mp h
      simp only [h, IntOp.cmpi, beq_false_of_ne h', decide_false]
  simp only [hw]
  rw [Finset.sum_eq_single (order s r)]
  · simp [FloatOps.sitofp]
  · intro j _ hj
    simp [hj, FloatOps.sitofp]
  · simp

/-- The kernel's product with the corner matrix takes centre and size to the corners. -/
theorem corner_eq (v : Fin 4 → EReal) (k : Fin 4) :
    (∑ x : Fin 4, Scalar.select (if x.val % 2 = k.val % 2 then 1#1 else 0#1)
        (v x * Scalar.select (IntOp.cmpi .slt (BitVec.ofNat 32 x.val) 2#32) (1 : EReal)
          (Scalar.select (IntOp.cmpi .slt (BitVec.ofNat 32 k.val) 2#32) (-half) half)) (0 : EReal)) = corner v k := by
  fin_cases k <;> simp [Fin.sum_univ_four, corner, Scalar.select, IntOp.cmpi, sub_eq_add_neg, mul_comm]

/-- What the body writes at place `r`, lane `k`, of image `b` of the block is `answer` of that image. -/
theorem body_apply (X : FVec Ideal S32x100x256 .f32) (B : FVec Ideal S32x100x4 .f32) (Z : IVec S32x2 32)
    (P : FVec Ideal S32x256 .f32) (b : Fin 32) (r : Fin 100) (k : Fin 4) :
    k0_pay12 (F := Ideal) (k0_pay1 X P) B
        (k0_pay8 (k0_pay3 Z) (k0_pay4 Z) two k0_pay5 k0_pay6 k0_pay7 (Scalar.cmpi .slt two 0#32))
        (iota .tc S4x4 32 [0] iota_S4x4_d0_w32) (iota .tc S4x4 32 [1] iota_S4x4_d1_w32) k0_pay9 two k0_pay10 k0_pay11
        (ix3 b r k)
      = answer (fun q l => X (ix3 b q l)) (fun q e => B (ix3 b q e)) (fun e => Z (ix2 b e)) (fun l => P (ix2 b l)) r k := by
  generalize hS : k0_pay8 (F := Ideal) (k0_pay3 Z) (k0_pay4 Z) two k0_pay5 k0_pay6 k0_pay7 (Scalar.cmpi .slt two 0#32) = S
  generalize hQ : k0_pay1 (F := Ideal) X P = Q
  pointwise [k0_pay12]
  subst hS hQ
  rw [scale_apply]
  simp only [parity_word, score_apply, take_eq, ofBits_neg_half]
  unfold answer
  congr 1
  exact corner_eq _ k

end Cert.Hand.Block

end
-- ==== Proof.KernelValue.lean ====
module

public import proofs.«01_k».proof.Proof.KernelBlock
public import Idealize.ShloMosaic.Lib.Pipeline.ValueKit

/-! The kernel's result array after its run, at every index. -/

@[expose] public section

set_option maxRecDepth 16384

noncomputable section

namespace Cert.Hand.Kernel

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The result array: `answer` of every image. -/
def result (X : FVec Ideal S64x100x256 .f32) (B : FVec Ideal S64x100x4 .f32) (Z : IVec S64x2 32)
    (P : FVec Ideal S64x256 .f32) : FVec Ideal S64x100x4 .f32 := fun i =>
  answer (fun q l => X (ix3 (i 0) q l)) (fun q e => B (ix3 (i 0) q e)) (fun e => Z (ix2 (i 0) e))
    (fun l => P (ix2 (i 0) l)) (i 1) (i 2)

/-- The windows' block indices: each walks along the images and stays at the start of every other axis. -/
theorem idx : ∀ t : Fin cfg0.N, win0_0.index t = ![(grid0.coords t 0).val, 0, 0] ∧ win0_1.index t = ![(grid0.coords t 0).val, 0, 0]
    ∧ win0_2.index t = ![(grid0.coords t 0).val, 0] ∧ win0_3.index t = ![(grid0.coords t 0).val, 0]
    ∧ win0_4.index t = ![(grid0.coords t 0).val, 0, 0] :=
  (by decide +kernel : ∀ t : Fin grid0.N, _)

/-- The body's write at a block index, over any blocks. -/
theorem body_at (X : FVec Ideal S32x100x256 .f32) (B : FVec Ideal S32x100x4 .f32) (Z : IVec S32x2 32)
    (P : FVec Ideal S32x256 .f32) (y : S32x100x4.Idx) :
    k0_pay12 (F := Ideal) (k0_pay1 X P) B
        (k0_pay8 (k0_pay3 Z) (k0_pay4 Z) Block.two k0_pay5 k0_pay6 k0_pay7 (Scalar.cmpi .slt Block.two 0#32))
        (iota .tc S4x4 32 [0] iota_S4x4_d0_w32) (iota .tc S4x4 32 [1] iota_S4x4_d1_w32) k0_pay9 Block.two k0_pay10 k0_pay11 y
      = answer (fun q l => X (ix3 (y 0) q l)) (fun q e => B (ix3 (y 0) q e)) (fun e => Z (ix2 (y 0) e))
          (fun l => P (ix2 (y 0) l)) (y 1) (y 2) := by
  idx_vars y
  exact Block.body_apply X B Z P _ _ _

/-- The result array after the run. -/
theorem final (c : Dev nD) : (dats m 0 c).arrAt 4 (cfgs 0).N
    = result (m ((c.tc : Thread nD τ).loc main_arg0)) (m ((c.tc : Thread nD τ).loc main_arg1))
        (m ((c.tc : Thread nD τ).loc main_arg2)) (m ((c.tc : Thread nD τ).loc main_arg3)) := by
  refine (dats m 0 c).arrAt_eq_of_covers 4 _ (by decide +kernel) fun t _ y => ?_
  blk_simp
  rw [after0_4]
  frame_out
  refine (body_at _ _ _ _ _).trans ?_
  unfold result
  congr 1
  · funext q l
    blk_point [iblk, V, idx t]
  · funext q e
    blk_point [iblk, V, idx t]
  · funext e
    blk_point [iblk, V, idx t]
  · funext l
    blk_point [iblk, V, idx t]
  · refine Fin.ext ?_
    blk_simp [idx t]
  · refine Fin.ext ?_
    blk_simp [idx t]

end Cert.Hand.Kernel

end
-- ==== Proof.RefTerm.lean ====
module

public import proofs.«01_k».proof.Proof.Gen.ReferenceIdeal.Run
public import proofs.«01_k».proof.Proof.Spec
public import Idealize.ShloMosaic.Lib.Pointwise

/-! The reference's composed term, cut into named stages over plain arrays. -/

@[expose] public section

set_option maxRecDepth 16384

noncomputable section

namespace Cert.Hand.Ref

open Idealize.ShloMosaic Idealize.ShloMosaic.TcCoe Idealize.SL.Sem
open Cert.ReferenceIdeal Cert.ReferenceIdeal.Gen

/-- The row maxima of the logits. -/
def mx (X : FVec Ideal S64x100x256 .f32) : FVec Ideal S64x100 .f32 :=
  maximumf (broadcastInDim S64x100 ![] bcast_S_S64x100 (constant S_ .f32 0xFF800000#32))
    (Host.reduce FloatOps.maximumf X (constant S_ .f32 0xFF800000#32) reducesTo_S64x100x256_S64x100_d2 h_S_)

/-- The exponentials above the row maxima. -/
def ex (X : FVec Ideal S64x100x256 .f32) : FVec Ideal S64x100x256 .f32 :=
  Host.exp (subf X (broadcastInDim S64x100x256 ![0, 1, 2] bcast_S64x100x1_S64x100x256_0_1_2
    (broadcastInDim S64x100x1 ![0, 1] bcast_S64x100_S64x100x1_0_1 (mx X))))

/-- The softmax. -/
def pr (X : FVec Ideal S64x100x256 .f32) : FVec Ideal S64x100x256 .f32 :=
  Host.divf (ex X) (broadcastInDim S64x100x256 ![0, 1, 2] bcast_S64x100x1_S64x100x256_0_1_2
    (broadcastInDim S64x100x1 ![0, 1] bcast_S64x100_S64x100x1_0_1
      (Host.reduceAdd (ex X) (constant S_ .f32 0x00000000#32) reducesTo_S64x100x256_S64x100_d2 h_S_)))

/-- The mask of a row of the positive map, as numbers. -/
def pos (P : FVec Ideal S64x256 .f32) : FVec Ideal S64x1x256 .f32 :=
  uitofp .f32 (broadcastInDim S64x1x256 ![0, 2] bcast_S64x256_S64x1x256_0_2
    (cmpf .ogt P (broadcastInDim S64x256 ![] bcast_S_S64x256 (constant S_ .f32 0x358637BD#32))))

/-- The scores: the largest masked softmax entries. -/
def sc (X : FVec Ideal S64x100x256 .f32) (P : FVec Ideal S64x256 .f32) : FVec Ideal S64x100 .f32 :=
  Host.reduce FloatOps.maximumf
    (mulf (broadcastInDim S64x100x256 ![0, 1, 2] bcast_S64x1x256_S64x100x256_0_1_2 (pos P)) (pr X))
    (constant S_ .f32 0xFF800000#32) reducesTo_S64x100x256_S64x100_d2 h_S_

/-- The stable argsort of the negated scores. -/
def ord (X : FVec Ideal S64x100x256 .f32) (P : FVec Ideal S64x256 .f32) : IVec S64x100 32 :=
  (Host.sort2 S64x100 1 comparator_f32_i32_d1 (Host.negf (sc X P)) (iotaInDim S64x100 32 1)).2

/-- The indices after the wrap of negative ones. -/
def wrapped (O : IVec S64x100 32) : IVec S64x100x1 32 :=
  select (cmpi .slt (broadcastInDim S64x100x1 ![0, 1] bcast_S64x100_S64x100x1_0_1 O)
      (broadcastInDim S64x100x1 ![] bcast_S_S64x100x1 (constantI S_ 32 0#32)))
    (addi (broadcastInDim S64x100x1 ![0, 1] bcast_S64x100_S64x100x1_0_1 O)
      (broadcastInDim S64x100x1 ![] bcast_S_S64x100x1 (constantI S_ 32 100#32)))
    (broadcastInDim S64x100x1 ![0, 1] bcast_S64x100_S64x100x1_0_1 O)

/-- Where the indices are in range. -/
def inRange (I : IVec S64x100x1 32) : IVec S64x100 1 :=
  Host.reduce IntOp.andi
    (andi (cmpi .sge I (broadcastInDim S64x100x1 ![] bcast_S_S64x100x1 (constantI S_ 32 0#32)))
      (cmpi .sle I (broadcastInDim S64x100x1 ![0, 1, 2] bcast_S1x1x1_S64x100x1_0_1_2
        (broadcastInDim S1x1x1 ![2] bcast_S1_S1x1x1_2 (constantI S1 32 99#32)))))
    (constantI S_ 1 1#1) reducesTo_S64x100x1_S64x100_d2 h_S_

/-- The centres' first coordinates. -/
def col0 (B : FVec Ideal S64x100x4 .f32) : FVec Ideal S64x100x1 .f32 :=
  extractStridedSlice S64x100x1 ![0, 0, 0] B slices_S64x100x4_S64x100x1_0_0_0

/-- The centres' second coordinates. -/
def col1 (B : FVec Ideal S64x100x4 .f32) : FVec Ideal S64x100x1 .f32 :=
  extractStridedSlice S64x100x1 ![0, 0, 1] B slices_S64x100x4_S64x100x1_0_0_1

/-- Half the widths. -/
def half2 (B : FVec Ideal S64x100x4 .f32) : FVec Ideal S64x100x1 .f32 :=
  mulf (broadcastInDim S64x100x1 ![] bcast_S_S64x100x1 (constant S_ .f32 0x3F000000#32))
    (extractStridedSlice S64x100x1 ![0, 0, 2] B slices_S64x100x4_S64x100x1_0_0_2)

/-- Half the heights. -/
def half3 (B : FVec Ideal S64x100x4 .f32) : FVec Ideal S64x100x1 .f32 :=
  mulf (broadcastInDim S64x100x1 ![] bcast_S_S64x100x1 (constant S_ .f32 0x3F000000#32))
    (extractStridedSlice S64x100x1 ![0, 0, 3] B slices_S64x100x4_S64x100x1_0_0_3)

/-- The corners of the boxes. -/
def cor (B : FVec Ideal S64x100x4 .f32) : FVec Ideal S64x100x4 .f32 :=
  concatenate S64x100x4 2
    [⟨S64x100x1, subf (col0 B) (half2 B)⟩, ⟨S64x100x1, subf (col1 B) (half3 B)⟩,
     ⟨S64x100x1, addf (col0 B) (half2 B)⟩, ⟨S64x100x1, addf (col1 B) (half3 B)⟩]
    concatenates_S64x100x1_S64x100x1_S64x100x1_S64x100x1_S64x100x4_d2

/-- One column of the image sizes, as numbers. -/
def sizeW (Z : IVec S64x2 32) : FVec Ideal S64x1 .f32 :=
  broadcastInDim S64x1 ![0] bcast_S64_S64x1_0 (sitofp .f32 (shapeCast S64 (extractStridedSlice S64x1 ![0, 1] Z slices_S64x2_S64x1_0_1) shapeCasts_S64x1_S64))

/-- The other column of the image sizes, as numbers. -/
def sizeH (Z : IVec S64x2 32) : FVec Ideal S64x1 .f32 :=
  broadcastInDim S64x1 ![0] bcast_S64_S64x1_0 (sitofp .f32 (shapeCast S64 (extractStridedSlice S64x1 ![0, 0] Z slices_S64x2_S64x1_0_0) shapeCasts_S64x1_S64))

/-- The scale of every lane. -/
def sizes (Z : IVec S64x2 32) : FVec Ideal S64x4 .f32 :=
  concatenate S64x4 1 [⟨S64x1, sizeW Z⟩, ⟨S64x1, sizeH Z⟩, ⟨S64x1, sizeW Z⟩, ⟨S64x1, sizeH Z⟩]
    concatenates_S64x1_S64x1_S64x1_S64x1_S64x4_d1

/-- The corners in pixels. -/
def px (B : FVec Ideal S64x100x4 .f32) (Z : IVec S64x2 32) : FVec Ideal S64x100x4 .f32 :=
  mulf (cor B) (broadcastInDim S64x100x4 ![0, 1, 2] bcast_S64x1x4_S64x100x4_0_1_2
    (broadcastInDim S64x1x4 ![0, 2] bcast_S64x4_S64x1x4_0_2 (sizes Z)))

/-- The whole reference: the pixel corners gathered along the argsort. -/
def out (X : FVec Ideal S64x100x256 .f32) (B : FVec Ideal S64x100x4 .f32) (Z : IVec S64x2 32)
    (P : FVec Ideal S64x256 .f32) : FVec Ideal S64x100x4 .f32 :=
  select (broadcastInDim S64x100x4 ![0, 1] bcast_S64x100_S64x100x4_0_1 (inRange (wrapped (ord X P))))
    (Host.gather gather_S64x100x4_S64x100x1_S64x100x4_2_1_0_0_1_2_114 (px B Z) (wrapped (ord X P)))
    (broadcastInDim S64x100x4 ![] bcast_S_S64x100x4 (constant S_ .f32 0x7FC00000#32))

/-- The result buffer of the reference's run is `out` of its arguments. -/
theorem res_eq (m : (ℓ : Loc nD τ sig) → Buf (Elt Ideal) ℓ) (c : Dev nD) :
    Value.res_main_v52 m c = out (m ((c.tc : Thread nD τ).loc main_arg0)) (m ((c.tc : Thread nD τ).loc main_arg1))
      (m ((c.tc : Thread nD τ).loc main_arg2)) (m ((c.tc : Thread nD τ).loc main_arg3)) := rfl

end Cert.Hand.Ref

end
-- ==== Proof.RefRead.lean ====
module

public import proofs.«01_k».proof.Proof.RefTerm

/-! The reference's stages read at an index: the scores, the corners and the scale. -/

@[expose] public section

set_option maxRecDepth 16384

noncomputable section

namespace Cert.Hand.Ref

open Idealize.ShloMosaic Idealize.ShloMosaic.TcCoe Idealize.SL.Sem
open Cert.ReferenceIdeal Cert.ReferenceIdeal.Gen

/-- The row maxima at a query. -/
theorem mx_apply (X : FVec Ideal S64x100x256 .f32) (b : Fin 64) (q : Fin 100) :
    mx X (ix2 b q) = rowMax fun l : Fin 256 => X (ix3 b q l) := by
  pointwise [mx]
  simp only [ofBits_neg_inf]
  exact max_eq_right bot_le

/-- The exponentials at a token. -/
theorem ex_apply (X : FVec Ideal S64x100x256 .f32) (b : Fin 64) (q : Fin 100) (l : Fin 256) :
    ex X (ix3 b q l) = Ideal.exp (X (ix3 b q l) - rowMax fun l : Fin 256 => X (ix3 b q l)) := by
  rw [← mx_apply]
  generalize hM : mx X = M
  pointwise [ex]
  rw [hM]

/-- The softmax at a token. -/
theorem pr_apply (X : FVec Ideal S64x100x256 .f32) (b : Fin 64) (q : Fin 100) (l : Fin 256) :
    pr X (ix3 b q l) = soft (rowMax fun l : Fin 256 => X (ix3 b q l)) (rowSum fun l : Fin 256 => X (ix3 b q l)) (X (ix3 b q l)) := by
  pointwise [pr]
  simp only [ex_apply]
  unfold soft rowSum
  rfl

/-- The mask at a token. -/
theorem pos_apply (P : FVec Ideal S64x256 .f32) (b : Fin 64) (l : Fin 256) :
    pos P (ix3 b 0 l) = if eps < P (ix2 b l) then 1 else 0 := by
  pointwise [pos]
  by_cases h : eps < P (ix2 b l)
  · rw [if_pos h]
    rw [show Ideal.ofBits FTy.f32 897988541#32 = eps from rfl, decide_eq_true h]
    simp [FloatOps.uitofp]
  · rw [if_neg h]
    rw [show Ideal.ofBits FTy.f32 897988541#32 = eps from rfl, decide_eq_false h]
    simp [FloatOps.uitofp]

/-- The scores at a query. -/
theorem sc_apply (X : FVec Ideal S64x100x256 .f32) (P : FVec Ideal S64x256 .f32) (b : Fin 64) (q : Fin 100)
    (hb : (rowMax fun l : Fin 256 => X (ix3 b q l)) ≠ ⊥) (ht : (rowMax fun l : Fin 256 => X (ix3 b q l)) ≠ ⊤) :
    sc X P (ix2 b q) = scores (fun q l => X (ix3 b q l)) (fun l => P (ix2 b l)) q := by
  unfold scores
  rw [← score_eq (by decide) _ _ hb ht]
  pointwise [sc]
  simp only [ofBits_neg_inf, pos_apply, pr_apply]

/-- The corners at a lane. -/
theorem cor_apply (B : FVec Ideal S64x100x4 .f32) (b : Fin 64) (q : Fin 100) (k : Fin 4) :
    cor B (ix3 b q k) = corner (fun e => B (ix3 b q e)) k := by
  unfold corner half
  fin_cases k <;> pointwise [cor, col0, col1, half2, half3] <;> rfl

/-- The scale at a lane. -/
theorem sizes_apply (Z : IVec S64x2 32) (b : Fin 64) (k : Fin 4) :
    sizes Z (ix2 b k) = scale (fun e => Z (ix2 b e)) k := by
  unfold scale
  fin_cases k <;> pointwise [sizes, sizeW, sizeH] <;> rfl

/-- The pixel corners at a lane. -/
theorem px_apply (B : FVec Ideal S64x100x4 .f32) (Z : IVec S64x2 32) (b : Fin 64) (q : Fin 100) (k : Fin 4) :
    px B Z (ix3 b q k) = corner (fun e => B (ix3 b q e)) k * scale (fun e => Z (ix2 b e)) k := by
  rw [← cor_apply, ← sizes_apply]
  generalize hC : cor B = C
  generalize hS : sizes Z = S
  pointwise [px]
  rw [hC, hS]

end Cert.Hand.Ref

end
-- ==== Proof.RefOrder.lean ====
module

public import proofs.«01_k».proof.Proof.RefTerm
public import Idealize.ShloMosaic.Lib.ReduceAll

/-! The reference's argsort and its gather, read at an index. -/

@[expose] public section

set_option maxRecDepth 16384

noncomputable section

namespace Cert.Hand.Ref

open Idealize.ShloMosaic Idealize.ShloMosaic.TcCoe Idealize.SL.Sem
open Cert.ReferenceIdeal Cert.ReferenceIdeal.Gen

/-- The sort's comparator at two extended reals: the first is smaller. -/
theorem comparator_eq (x y : EReal) (i j : BitVec 32) :
    (comparator_f32_i32_d1 (F := Ideal) (x, i) (y, j) == 1#1) = decide (x < y) := by
  have e : comparator_f32_i32_d1 (F := Ideal) (x, i) (y, j) = BitVec.ofBool (decide (x < y)) := by
    unfold comparator_f32_i32_d1
    pointwise
    have h : ∀ z : EReal, (if z ≠ z then Ideal.ofBits .f32 2143289344#32 else if z = 0 then 0 else z) = z := by
      intro z
      by_cases hz : z = 0 <;> simp [hz]
    rw [h, h]
    rfl
  rw [e]
  by_cases h : x < y <;> simp [h]

/-- A negated array at an index. -/
theorem negf_apply (S : FVec Ideal S64x100 .f32) (i : S64x100.Idx) : Host.negf S i = -(show EReal from S i) := rfl

/-- Negation turns "smaller" around. -/
theorem neg_lt (x y : EReal) : decide (-x < -y) = decide (y < x) := by simp only [EReal.neg_lt_neg_iff]

/-- The axis the argsort goes along. -/
abbrev ax : Fin S64x100.rank := ⟨1, by decide⟩

/-- The count along the axis is the position's word. -/
theorem iota_apply (b : Fin 64) (n : Fin 100) : iotaInDim S64x100 32 1 (ix2 b n) = BitVec.ofNat 32 n.val := rfl

/-- The positions along a row, at one of them. -/
theorem along_eq (b : Fin 64) (r k : Fin 100) :
    Shape.Idx.along (s := S64x100) (ix2 b r) ax k = ix2 b k := by
  funext a
  fin_cases a <;> rfl

/-- The stable argsort of a negated array at a place: the word of the position at that place. -/
theorem sort_apply (S : FVec Ideal S64x100 .f32) (b : Fin 64) (r : Fin 100) :
    (Host.sort2 S64x100 1 comparator_f32_i32_d1 (Host.negf S) (iotaInDim S64x100 32 1)).2 (ix2 b r)
      = BitVec.ofNat 32 (order (fun q : Fin 100 => S (ix2 b q)) r).val := by
  have hcmp : (fun k k' : Fin 100 => comparator_f32_i32_d1 (F := Ideal)
        (Host.negf S (Shape.Idx.along (s := S64x100) (ix2 b r) ax k),
          iotaInDim S64x100 32 1 (Shape.Idx.along (s := S64x100) (ix2 b r) ax k))
        (Host.negf S (Shape.Idx.along (s := S64x100) (ix2 b r) ax k'),
          iotaInDim S64x100 32 1 (Shape.Idx.along (s := S64x100) (ix2 b r) ax k')) == 1#1)
      = larger fun q : Fin 100 => S (ix2 b q) := by
    funext k k'
    rw [comparator_eq, along_eq, along_eq, negf_apply, negf_apply]
    exact neg_lt _ _
  unfold order
  rw [← hcmp]
  unfold Host.sort2
  rw [dif_pos (by decide : 1 < S64x100.rank)]
  dsimp only
  exact (congrArg (iotaInDim S64x100 32 1) (along_eq b r _)).trans (iota_apply b _)

/-- The argsort at a place: the word of the position at that place. -/
theorem ord_apply (X : FVec Ideal S64x100x256 .f32) (P : FVec Ideal S64x256 .f32) (b : Fin 64) (r : Fin 100) :
    ord X P (ix2 b r) = BitVec.ofNat 32 (order (fun q : Fin 100 => sc X P (ix2 b q)) r).val :=
  sort_apply (sc X P) b r

/-- The wrap of negative indices leaves the word of a position. -/
theorem wrap_word (n : Fin 100) : Scalar.select (IntOp.cmpi .slt (BitVec.ofNat 32 n.val) 0#32)
    (IntOp.addi (BitVec.ofNat 32 n.val) 100#32) (BitVec.ofNat 32 n.val) = BitVec.ofNat 32 n.val := by
  revert n
  decide +kernel

/-- The argsort's indices are in range, so the wrap leaves them. -/
theorem wrapped_apply (O : IVec S64x100 32) (b : Fin 64) (r : Fin 100) (n : Fin 100) (h : O (ix2 b r) = BitVec.ofNat 32 n.val) :
    wrapped O (ix3 b r 0) = BitVec.ofNat 32 n.val := by
  pointwise [wrapped]
  rw [h]
  exact wrap_word n

/-- An in-range word passes the range test. -/
theorem range_word (n : Fin 100) : IntOp.andi (IntOp.cmpi .sge (BitVec.ofNat 32 n.val) 0#32)
    (IntOp.cmpi .sle (BitVec.ofNat 32 n.val) 99#32) = 1#1 := by
  revert n
  decide +kernel

/-- In-range indices pass the range test. -/
theorem inRange_apply (I : IVec S64x100x1 32) (h : ∀ b r, ∃ n : Fin 100, I (ix3 b r 0) = BitVec.ofNat 32 n.val) (b : Fin 64) (r : Fin 100) :
    inRange I (ix2 b r) = 1#1 := by
  unfold inRange
  refine Host.reduce_andi_one _ _ _ _ _ rfl fun i => ?_
  idx_vars i
  pointwise
  obtain ⟨n, hn⟩ := h i0 i1
  have e : i2 = 0 := Subsingleton.elim _ _
  rw [e, hn]
  exact range_word n

/-- The word of a position reads back as the position. -/
theorem toNat_word (n : Fin 100) : min (BitVec.ofNat 32 n.val).toInt.toNat 99 = n.val := by
  revert n
  decide +kernel

/-- The gather's dimension numbers, under a short name. -/
abbrev dims : GatherDims S64x100x4 S64x100x1 S64x100x4 := gather_S64x100x4_S64x100x1_S64x100x4_2_1_0_0_1_2_114

/-- The gather along the second axis, at an in-range index. -/
theorem gather_apply (T : FVec Ideal S64x100x4 .f32) (I : IVec S64x100x1 32) (b : Fin 64) (r : Fin 100) (k : Fin 4) (n : Fin 100)
    (h : I (ix3 b r 0) = BitVec.ofNat 32 n.val) :
    Host.gather dims T I (ix3 b r k) = T (ix3 b n k) := by
  unfold Host.gather
  congr 1
  funext a
  refine Fin.ext ?_
  show dims.start (ix3 b r k) I a + dims.batchCoord (ix3 b r k) a + dims.offCoord (ix3 b r k) a = _
  fin_cases a
  · rw [GatherDims.start_batching _ _ _ _ (by decide), GatherDims.offCoord_eq_zero _ _ _ (by decide),
      Nat.zero_add, Nat.add_zero]
    rfl
  · rw [GatherDims.batchCoord_eq_zero _ _ _ (by decide), GatherDims.offCoord_eq_zero _ _ _ (by decide)]
    have hs : dims.siIdx (ix3 b r k) ⟨0, by decide⟩ = ix3 b r 0 := by
      funext c
      fin_cases c <;> rfl
    have e : dims.start (ix3 b r k) I 1 = min (I (dims.siIdx (ix3 b r k) ⟨0, by decide⟩)).toInt.toNat 99 := rfl
    rw [hs, h, toNat_word] at e
    exact congrArg (fun z => z + 0 + 0) e
  · rw [GatherDims.batchCoord_eq_zero _ _ _ (by decide)]
    have e : dims.start (ix3 b r k) I 2 = 0 := rfl
    exact (congrArg (fun z => z + 0 + dims.offCoord (ix3 b r k) 2) e).trans (Nat.zero_add _)

end Cert.Hand.Ref

end
-- ==== Proof.RefValue.lean ====
module

public import proofs.«01_k».proof.Proof.RefRead
public import proofs.«01_k».proof.Proof.RefOrder

/-! The reference's result at an index is `answer`. -/

@[expose] public section

set_option maxRecDepth 16384

noncomputable section

namespace Cert.Hand.Ref

open Idealize.ShloMosaic Idealize.ShloMosaic.TcCoe Idealize.SL.Sem
open Cert.ReferenceIdeal Cert.ReferenceIdeal.Gen

/-- A selection under a row mask that holds at the row is its first operand there. -/
theorem select_row (M : IVec S64x100 1) (T U : FVec Ideal S64x100x4 .f32) (b : Fin 64) (r : Fin 100) (k : Fin 4)
    (h : M (ix2 b r) = 1#1) :
    select (broadcastInDim S64x100x4 ![0, 1] bcast_S64x100_S64x100x4_0_1 M) T U (ix3 b r k) = T (ix3 b r k) := by
  pointwise
  rw [h]
  rfl

/-- Every wrapped index is the word of the position at its sorted place. -/
theorem index_apply (X : FVec Ideal S64x100x256 .f32) (P : FVec Ideal S64x256 .f32) (b : Fin 64) (r : Fin 100) :
    wrapped (ord X P) (ix3 b r 0) = BitVec.ofNat 32 (order (fun q : Fin 100 => sc X P (ix2 b q)) r).val :=
  wrapped_apply _ b r _ (ord_apply X P b r)

/-- The reference's result at an index is `answer` of the image, where every row's maximum is finite. -/
theorem out_apply (X : FVec Ideal S64x100x256 .f32) (B : FVec Ideal S64x100x4 .f32) (Z : IVec S64x2 32)
    (P : FVec Ideal S64x256 .f32)
    (hfin : ∀ (b : Fin 64) (q : Fin 100), (rowMax fun l : Fin 256 => X (ix3 b q l)) ≠ ⊥ ∧ (rowMax fun l : Fin 256 => X (ix3 b q l)) ≠ ⊤)
    (b : Fin 64) (r : Fin 100) (k : Fin 4) :
    out X B Z P (ix3 b r k)
      = answer (fun q l => X (ix3 b q l)) (fun q e => B (ix3 b q e)) (fun e => Z (ix2 b e)) (fun l => P (ix2 b l)) r k := by
  unfold out
  rw [select_row _ _ _ b r k (inRange_apply _ (fun b r => ⟨_, index_apply X P b r⟩) b r),
    gather_apply _ _ b r k _ (index_apply X P b r), px_apply]
  have e : (fun q : Fin 100 => sc X P (ix2 b q)) = scores (fun q l => X (ix3 b q l)) (fun l => P (ix2 b l)) :=
    funext fun q => sc_apply X P b q (hfin b q).1 (hfin b q).2
  rw [e]
  rfl

end Cert.Hand.Ref

end
-- ==== Proof.Finite.lean ====
module

public import proofs.«01_k».proof.Proof.Gen.Pre_row_max_finite
public import proofs.«01_k».proof.Proof.Spec
public import Idealize.ShloMosaic.Lib.Pointwise

/-! What the precondition says of the logits: every row's maximum is finite. -/

@[expose] public section

set_option maxRecDepth 16384

noncomputable section

namespace Cert.Hand

open Idealize.ShloMosaic Idealize.ShloMosaic.TcCoe

/-- An extended real of absolute value below `+∞` is finite. -/
theorem finite_of_abs (x : EReal) (h : max x (-x) < ⊤) : x ≠ ⊥ ∧ x ≠ ⊤ := by
  constructor
  · rintro rfl
    simp at h
  · rintro rfl
    simp at h

/-- The precondition, read at one row: its maximum is neither infinity. -/
theorem rowMax_finite (X : FVec Ideal Cert.Pre_row_max_finite.S64x100x256 .f32) (B : FVec Ideal Cert.Pre_row_max_finite.S64x100x4 .f32)
    (Z : IVec Cert.Pre_row_max_finite.S64x2 32) (P : FVec Ideal Cert.Pre_row_max_finite.S64x256 .f32)
    (I : IVec Cert.Pre_row_max_finite.S64 32)
    (h : Cert.Pre_row_max_finite.fn (F := Ideal) X B Z P I = fun _ => 1#1) (b : Fin 64) (q : Fin 100) :
    (rowMax fun l : Fin 256 => X (ix3 b q l)) ≠ ⊥ ∧ (rowMax fun l : Fin 256 => X (ix3 b q l)) ≠ ⊤ := by
  have e := congrFun h (ix2 b q)
  pointwise [Cert.Pre_row_max_finite.fn] at e
  simp only [ofBits_neg_inf, ofBits_pos_inf] at e
  by_contra hc
  refine hc (finite_of_abs _ ?_)
  by_contra hn
  rw [show FloatOps.absf (F := Ideal) (φ := .f32) (Finset.univ.fold max ⊥ fun x => X (ix3 b q x))
    = max (rowMax fun l : Fin 256 => X (ix3 b q l)) (-(rowMax fun l : Fin 256 => X (ix3 b q l))) from rfl,
    decide_eq_false hn] at e
  exact absurd e (by decide)

end Cert.Hand

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_row_max_finite
public import proofs.«01_k».proof.Proof.KernelValue
public import proofs.«01_k».proof.Proof.RefValue
public import proofs.«01_k».proof.Proof.Finite
public import Idealize.ShloMosaic.Adequacy
public import Idealize.ShloMosaic.Init
public import Idealize.ShloMosaic.Lib.Claim
public import Idealize.ShloMosaic.Lib.Quiescent

/-! The certificate: the three frames, the idealization, and the value claim. -/

@[expose] public section

set_option maxRecDepth 16384

noncomputable section

namespace Cert.Proof

open Idealize.ShloMosaic Idealize.SL.Sem

/-- The reference's run leaves its arguments and, since it declares no semaphore, every counter at zero. -/
theorem reference_frame : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The reference's result on the kernel's arguments is the kernel's result array, where the precondition holds. -/
theorem values_agree (m : (ℓ : Loc Cert.KernelIdeal.nD Cert.KernelIdeal.τ Cert.KernelIdeal.sig) → Buf (Elt Ideal) ℓ)
    (hpre : Cert.Pre_KernelIdeal_row_max_finite m) (c : Dev Cert.KernelIdeal.nD) :
    Cert.Hand.Ref.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
    = (Cert.KernelIdeal.Gen.dats m 0 c).arrAt 4 (Cert.KernelIdeal.cfgs 0).N := by
  rw [Cert.Hand.Kernel.final m c]
  funext i
  idx_vars i
  exact Cert.Hand.Ref.out_apply _ _ _ _
    (fun b q => Cert.Hand.rowMax_finite _ _ _ _ _ (hpre c) b q) _ _ _

/-- The value claim: both runs end with the same result array. -/
theorem algebraic : Cert.algebraic_KernelIdeal_ReferenceIdeal_pre_row_max_finite := by
  pair_intro
  · run_from Cert.KernelIdeal.Gen.run_main m g
  · run_from Cert.ReferenceIdeal.Value.run m' g'
    rw [Cert.Hand.Ref.res_eq, (hagree c).1, (hagree c).2.1, (hagree c).2.2.1, (hagree c).2.2.2.1]
    exact values_agree m hpre c

/-- The whole claim. -/
theorem claim : Cert.Claim :=
  ⟨Cert.Kernel.Gen.facts, Cert.KernelIdeal.Gen.facts, Cert.ReferenceIdeal.Gen.facts, Cert.Pre_row_max_finite.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    algebraic⟩

end Cert.Proof

end
